-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S4096x2 : Shape := ⟨2, ![4096, 2]⟩
abbrev S4096 : Shape := ⟨1, ![4096]⟩
abbrev S4096x1 : Shape := ⟨2, ![4096, 1]⟩
abbrev S1x4096 : Shape := ⟨2, ![1, 4096]⟩
abbrev S6 : Shape := ⟨1, ![6]⟩
abbrev S1024x1 : Shape := ⟨2, ![1024, 1]⟩
abbrev S8x4096 : Shape := ⟨2, ![8, 4096]⟩
abbrev S1024x128 : Shape := ⟨2, ![1024, 128]⟩
abbrev S1024x4096 : Shape := ⟨2, ![1024, 4096]⟩
abbrev S4x4096 : Shape := ⟨2, ![4, 4096]⟩
abbrev S1x1x4096 : Shape := ⟨3, ![1, 1, 4096]⟩
abbrev S1 : Shape := ⟨1, ![1]⟩
abbrev S1x1x1 : Shape := ⟨3, ![1, 1, 1]⟩

abbrev nBuf : Space → Nat
  | .hbm => 11
  | .vmem => 11
  | .smem => 1
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x2, .i32⟩
  | .hbm, ⟨3, _⟩ => ⟨S4096, .i32⟩
  | .hbm, ⟨4, _⟩ => ⟨S4096x1, .i32⟩
  | .hbm, ⟨5, _⟩ => ⟨S4096, .i32⟩
  | .hbm, ⟨6, _⟩ => ⟨S1x4096, .i32⟩
  | .hbm, ⟨7, _⟩ => ⟨S1x4096, .i32⟩
  | .hbm, ⟨8, _⟩ => ⟨S4096x1, .i32⟩
  | .hbm, ⟨9, _⟩ => ⟨S4096x1, .i32⟩
  | .hbm, ⟨10, _⟩ => ⟨S6, .f32⟩
  | .local _ .vmem, ⟨0, _⟩ => ⟨S4096x128, .f32⟩
  | .local _ .vmem, ⟨1, _⟩ => ⟨S4096x128, .f32⟩
  | .local _ .vmem, ⟨2, _⟩ => ⟨S1x4096, .i32⟩
  | .local _ .vmem, ⟨3, _⟩ => ⟨S1x4096, .i32⟩
  | .local _ .vmem, ⟨4, _⟩ => ⟨S1024x1, .i32⟩
  | .local _ .vmem, ⟨5, _⟩ => ⟨S1024x1, .i32⟩
  | .local _ .vmem, ⟨6, _⟩ => ⟨S1024x1, .i32⟩
  | .local _ .vmem, ⟨7, _⟩ => ⟨S1024x1, .i32⟩
  | .local _ .vmem, ⟨8, _⟩ => ⟨S4096x128, .bf16⟩
  | .local _ .vmem, ⟨9, _⟩ => ⟨S4096x128, .bf16⟩
  | .local _ .vmem, ⟨10, _⟩ => ⟨S8x4096, .f32⟩
  | .local _ .smem, ⟨0, _⟩ => ⟨S6, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg6_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let arg0 : BitVec 32 := BitVec.ofNat 32 (i 0).val
  let c1024_i32 : BitVec 32 := 1024#32
  let v18 : BitVec 32 := Scalar.muli arg0 c1024_i32
  let v19 : Index := Scalar.indexCast v18
  let c0_12 : Index := 0#32
  ![v19.toNat, 0]
def k0_cond2 (i : grid0.Coords) : BitVec 1 :=
  let arg0 : BitVec 32 := BitVec.ofNat 32 (i 0).val
  let c3_i32 : BitVec 32 := 3#32
  let v63 : BitVec 1 := Scalar.cmpi .eq arg0 c3_i32
  let v64 : BitVec 32 := Scalar.extui v63
  let c0_i32_29 : BitVec 32 := 0#32
  let v65 : BitVec 1 := Scalar.cmpi .ne v64 c0_i32_29
  v65

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .smem S6 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S4096x128 : Shape := ⟨2, ![4096, 128]⟩
abbrev S4096x2 : Shape := ⟨2, ![4096, 2]⟩
abbrev S4096 : Shape := ⟨1, ![4096]⟩
abbrev S_ : Shape := ⟨0, ![]⟩
abbrev S4096x1 : Shape := ⟨2, ![4096, 1]⟩
abbrev S128x4096 : Shape := ⟨2, ![128, 4096]⟩
abbrev S4096x4096 : Shape := ⟨2, ![4096, 4096]⟩
abbrev S1x4096 : Shape := ⟨2, ![1, 4096]⟩
abbrev S1 : Shape := ⟨1, ![1]⟩
abbrev S6 : Shape := ⟨1, ![6]⟩

abbrev nBuf : Space → Nat
  | .hbm => 118
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x2, .i32⟩
  | .hbm, ⟨3, _⟩ => ⟨S4096, .i32⟩
  | .hbm, ⟨4, _⟩ => ⟨S4096x128, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x128, .f32⟩
  | .hbm, ⟨14, _⟩ => ⟨S4096x128, .f32⟩
  | .hbm, ⟨15, _⟩ => ⟨S4096x128, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x128, .f32⟩
  | .hbm, ⟨25, _⟩ => ⟨S4096x128, .f32⟩
  | .hbm, ⟨26, _⟩ => ⟨S4096x1, .i32⟩
  | .hbm, ⟨27, _⟩ => ⟨S4096, .i32⟩
  | .hbm, ⟨28, _⟩ => ⟨S_, .i32⟩
  | .hbm, ⟨29, _⟩ => ⟨S4096, .i32⟩
  | .hbm, ⟨30, _⟩ => ⟨S4096, .i1⟩
  | .hbm, ⟨31, _⟩ => ⟨S_, .i32⟩
  | .hbm, ⟨32, _⟩ => ⟨S4096, .i32⟩
  | .hbm, ⟨33, _⟩ => ⟨S4096, .i1⟩
  | .hbm, ⟨34, _⟩ => ⟨S4096, .i1⟩
  | .hbm, ⟨35, _⟩ => ⟨S_, .i32⟩
  | .hbm, ⟨36, _⟩ => ⟨S4096, .i32⟩
  | .hbm, ⟨37, _⟩ => ⟨S4096, .i1⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S128x4096, .f32⟩
  | .hbm, ⟨42, _⟩ => ⟨S4096x4096, .f32⟩
  | .hbm, ⟨43, _⟩ => ⟨S128x4096, .f32⟩
  | .hbm, ⟨44, _⟩ => ⟨S4096x4096, .f32⟩
  | .hbm, ⟨45, _⟩ => ⟨S4096x1, .i1⟩
  | .hbm, ⟨46, _⟩ => ⟨S1x4096, .i1⟩
  | .hbm, ⟨47, _⟩ => ⟨S4096x4096, .i1⟩
  | .hbm, ⟨48, _⟩ => ⟨S4096x4096, .i1⟩
  | .hbm, ⟨49, _⟩ => ⟨S4096x4096, .i1⟩
  | .hbm, ⟨50, _⟩ => ⟨S_, .f32⟩
  | .hbm, ⟨51, _⟩ => ⟨S_, .f32⟩
  | .hbm, ⟨52, _⟩ => ⟨S4096x4096, .f32⟩
  | .hbm, ⟨53, _⟩ => ⟨S4096x4096, .f32⟩
  | .hbm, ⟨54, _⟩ => ⟨S_, .f32⟩
  | .hbm, ⟨55, _⟩ => ⟨S_, .f32⟩
  | .hbm, ⟨56, _⟩ => ⟨S4096x1, .i1⟩
  | .hbm, ⟨57, _⟩ => ⟨S1x4096, .i1⟩
  | .hbm, ⟨58, _⟩ => ⟨S4096x4096, .i1⟩
  | .hbm, ⟨59, _⟩ => ⟨S4096x4096, .i1⟩
  | .hbm, ⟨60, _⟩ => ⟨S4096x4096, .i1⟩
  | .hbm, ⟨61, _⟩ => ⟨S_, .f32⟩
  | .hbm, ⟨62, _⟩ => ⟨S_, .f32⟩
  | .hbm, ⟨63, _⟩ => ⟨S4096x4096, .f32⟩
  | .hbm, ⟨64, _⟩ => ⟨S4096x4096, .f32⟩
  | .hbm, ⟨65, _⟩ => ⟨S_, .f32⟩
  | .hbm, ⟨66, _⟩ => ⟨S_, .f32⟩
  | .hbm, ⟨67, _⟩ => ⟨S4096x1, .i1⟩
  | .hbm, ⟨68, _⟩ => ⟨S1x4096, .i1⟩
  | .hbm, ⟨69, _⟩ => ⟨S4096x4096, .i1⟩
  | .hbm, ⟨70, _⟩ => ⟨S4096x4096, .i1⟩
  | .hbm, ⟨71, _⟩ => ⟨S4096x4096, .i1⟩
  | .hbm, ⟨72, _⟩ => ⟨S_, .f32⟩
  | .hbm, ⟨73, _⟩ => ⟨S_, .f32⟩
  | .hbm, ⟨74, _⟩ => ⟨S4096x4096, .f32⟩
  | .hbm, ⟨75, _⟩ => ⟨S4096x4096, .f32⟩
  | .hbm, ⟨76, _⟩ => ⟨S_, .f32⟩
  | .hbm, ⟨77, _⟩ => ⟨S_, .f32⟩
  | .hbm, ⟨78, _⟩ => ⟨S4096x1, .i1⟩
  | .hbm, ⟨79, _⟩ => ⟨S1x4096, .i1⟩
  | .hbm, ⟨80, _⟩ => ⟨S4096x4096, .i1⟩
  | .hbm, ⟨81, _⟩ => ⟨S4096x4096, .i1⟩
  | .hbm, ⟨82, _⟩ => ⟨S4096x4096, .i1⟩
  | .hbm, ⟨83, _⟩ => ⟨S_, .f32⟩
  | .hbm, ⟨84, _⟩ => ⟨S_, .f32⟩
  | .hbm, ⟨85, _⟩ => ⟨S4096x4096, .f32⟩
  | .hbm, ⟨86, _⟩ => ⟨S4096x4096, .f32⟩
  | .hbm, ⟨87, _⟩ => ⟨S_, .f32⟩
  | .hbm, ⟨88, _⟩ => ⟨S_, .f32⟩
  | .hbm, ⟨89, _⟩ => ⟨S4096x1, .i1⟩
  | .hbm, ⟨90, _⟩ => ⟨S1x4096, .i1⟩
  | .hbm, ⟨91, _⟩ => ⟨S4096x4096, .i1⟩
  | .hbm, ⟨92, _⟩ => ⟨S4096x4096, .i1⟩
  | .hbm, ⟨93, _⟩ => ⟨S4096x4096, .i1⟩
  | .hbm, ⟨94, _⟩ => ⟨S_, .f32⟩
  | .hbm, ⟨95, _⟩ => ⟨S_, .f32⟩
  | .hbm, ⟨96, _⟩ => ⟨S4096x4096, .f32⟩
  | .hbm, ⟨97, _⟩ => ⟨S4096x4096, .f32⟩
  | .hbm, ⟨98, _⟩ => ⟨S_, .f32⟩
  | .hbm, ⟨99, _⟩ => ⟨S_, .f32⟩
  | .hbm, ⟨100, _⟩ => ⟨S4096x1, .i1⟩
  | .hbm, ⟨101, _⟩ => ⟨S1x4096, .i1⟩
  | .hbm, ⟨102, _⟩ => ⟨S4096x4096, .i1⟩
  | .hbm, ⟨103, _⟩ => ⟨S4096x4096, .i1⟩
  | .hbm, ⟨104, _⟩ => ⟨S4096x4096, .i1⟩
  | .hbm, ⟨105, _⟩ => ⟨S_, .f32⟩
  | .hbm, ⟨106, _⟩ => ⟨S_, .f32⟩
  | .hbm, ⟨107, _⟩ => ⟨S4096x4096, .f32⟩
  | .hbm, ⟨108, _⟩ => ⟨S4096x4096, .f32⟩
  | .hbm, ⟨109, _⟩ => ⟨S_, .f32⟩
  | .hbm, ⟨110, _⟩ => ⟨S_, .f32⟩
  | .hbm, ⟨111, _⟩ => ⟨S1, .f32⟩
  | .hbm, ⟨112, _⟩ => ⟨S1, .f32⟩
  | .hbm, ⟨113, _⟩ => ⟨S1, .f32⟩
  | .hbm, ⟨114, _⟩ => ⟨S1, .f32⟩
  | .hbm, ⟨115, _⟩ => ⟨S1, .f32⟩
  | .hbm, ⟨116, _⟩ => ⟨S1, .f32⟩
  | .hbm, ⟨117, _⟩ => ⟨S6, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_call1_v0 : Ref sig .tc := ⟨.hbm, 21, rfl⟩
abbrev main_call1_v1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_call2_v0 : Ref sig .tc := ⟨.hbm, 51, rfl⟩
abbrev main_call2_v1 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_call3_v0 : Ref sig .tc := ⟨.hbm, 62, rfl⟩
abbrev main_call3_v1 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_10 : Ref sig .tc := ⟨.hbm, 72, rfl⟩
abbrev main_call4_v0 : Ref sig .tc := ⟨.hbm, 73, rfl⟩
abbrev main_call4_v1 : Ref sig .tc := ⟨.hbm, 74, rfl⟩
abbrev main_v48 : Ref sig .tc := ⟨.hbm, 75, rfl⟩
abbrev main_cst_11 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_12 : Ref sig .tc := ⟨.hbm, 83, rfl⟩
abbrev main_call5_v0 : Ref sig .tc := ⟨.hbm, 84, rfl⟩
abbrev main_call5_v1 : Ref sig .tc := ⟨.hbm, 85, rfl⟩
abbrev main_v55 : Ref sig .tc := ⟨.hbm, 86, rfl⟩
abbrev main_cst_13 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_14 : Ref sig .tc := ⟨.hbm, 94, rfl⟩
abbrev main_call6_v0 : Ref sig .tc := ⟨.hbm, 95, rfl⟩
abbrev main_call6_v1 : Ref sig .tc := ⟨.hbm, 96, rfl⟩
abbrev main_v62 : Ref sig .tc := ⟨.hbm, 97, rfl⟩
abbrev main_cst_15 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_16 : Ref sig .tc := ⟨.hbm, 105, rfl⟩
abbrev main_call7_v0 : Ref sig .tc := ⟨.hbm, 106, rfl⟩
abbrev main_call7_v1 : Ref sig .tc := ⟨.hbm, 107, rfl⟩
abbrev main_v69 : Ref sig .tc := ⟨.hbm, 108, rfl⟩
abbrev main_cst_17 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩

abbrev nD : Nat := 1
abbrev τ : Topo := Topo.v7x

variable {F : FTy → Type} [FloatOps F]
-- ==== Proof.Cases.lean ====
/-
  WHAT ONE GRID POINT LEAVES, at any float values: each case's contents of the three carried scratch buffers and of the
  output, as the body's payloads of the point's input blocks and of what the point before left.

  The grid has four points, one per block of 1024 rows. Point 0 fills the two scratch arrays of normalised rows and sets
  the accumulator to its start; every point lowers the accumulator by its row block (`accStep`); point 3 then takes the
  six final minima over the columns.
-/
module

public import proofs.«01_k».proof.Proof.Gen.KernelIdeal.Frame
public import Idealize.ShloMosaic.Lib.Pipeline.Value
public import Idealize.ShloMosaic.Lib.Pipeline.ReadBack

@[expose] public section

set_option maxRecDepth 16384

noncomputable section

namespace Cert.KernelIdeal.Value

open Cert.KernelIdeal Cert.KernelIdeal.Gen Idealize.ShloMosaic Idealize.ShloMosaic.TcCoe Idealize.ShloMosaic.Tactic
open Idealize.SL.Sem

variable {F : FTy → Type} [FloatOps F]

theorem zeroOff2 : (![0, 0] : Fin 2 → Nat) = fun _ => 0 := by funext a; fin_cases a <;> rfl

/-- A load of any rectangle of a buffer whose one store filled it whole reads the stored array there. -/
theorem readCov_whole {S : Shape} {e : EltTy} {sg : RefSig} {κ : Kind} {sp : Space} (v : View sg κ sp S e)
    {off : Fin S.rank → Nat} (h : off = fun _ => 0) (inb : ∀ a, off a + S.size a ≤ S.size a) (w : S.Idx → Elt F e)
    (r : Rect S) :
    v.readCov [(⟨Rect.unit off S.size inb, w⟩ : View.Piece (Elt F) S e)] r.toLoadRect = View.ld w r :=
  View.readCov_fill v inb w [] r fun a => congrFun h a

/-- The 1024 rows of a scratch array of normalised rows that point `i` works on. -/
abbrev rowBlock (i : grid0.Coords) (v : Vec F S4096x128 .bf16) : Vec F S1024x128 .bf16 :=
  View.ld v (Rect.unit (s := S4096x128) (k0_off1 i) S1024x128.size (k0_off1_inb i))

/-- Row `r` of the accumulator, as a one-row array. -/
abbrev accRow (off : Fin 2 → Nat) (h : ∀ a, off a + S1x4096.size a ≤ S8x4096.size a) (acc : Vec F S8x4096 .f32) :
    Vec F S1x4096 .f32 :=
  View.ld acc (Rect.unit (s := S8x4096) off S1x4096.size h)

/-- What point `i` makes of the accumulator `acc`: its minimum with the masked column minima of the point's row block,
    for the two arrays of normalised rows `imn` and `clin` and the two row groups (`t`, `tr`: the rows' labels). -/
def accStep (i : grid0.Coords) (t tr : Vec F S1024x1 .i32) (imn clin : Vec F S4096x128 .bf16) (acc : Vec F S8x4096 .f32) :
    Vec F S8x4096 .f32 :=
  k0_pay1 (k0_pay13 t tr) (k0_pay14 t) clin (k0_pay16 t imn (rowBlock i imn)) (k0_pay17 t tr imn (rowBlock i imn))
    (rowBlock i clin) acc

section
variable (c : Dev nD) (i : grid0.Coords) (a1 : Memref sig .tc .vmem S4096x128 .f32) (h1 : a1.IsWhole)
  (a2 : Memref sig .tc .vmem S4096x128 .f32) (h2 : a2.IsWhole) (a3 : Memref sig .tc .vmem S1x4096 .i32) (h3 : a3.IsWhole)
  (a4 : Memref sig .tc .vmem S1x4096 .i32) (h4 : a4.IsWhole) (a5 : Memref sig .tc .vmem S1024x1 .i32) (h5 : a5.IsWhole)
  (a6 : Memref sig .tc .vmem S1024x1 .i32) (h6 : a6.IsWhole) (a7 : Memref sig .tc .smem S6 .f32) (h7 : a7.IsWhole)
  (a8 : Memref sig .tc .vmem S4096x128 .bf16) (h8 : a8.IsWhole) (a9 : Memref sig .tc .vmem S4096x128 .bf16) (h9 : a9.IsWhole)
  (a10 : Memref sig .tc .vmem S8x4096 .f32) (h10 : a10.IsWhole)
  (x0 x1 : Vec F S4096x128 .f32) (x2 x3 : Vec F S1x4096 .i32) (x4 x5 : Vec F S1024x1 .i32)
  (s0 s1 : Vec F S4096x128 .bf16) (s2 : Vec F S8x4096 .f32)

/-- Point 0 leaves the normalised rows of the first array in the first scratch. -/
theorem imn_A (hc0 : cond0_0 i) (hc1 : ¬cond0_1 i) :
    sout0_A_0 c i a1 h1 a2 h2 a3 h3 a4 h4 a5 h5 a6 h6 a7 h7 a8 h8 a9 h9 a10 h10 hc0 hc1 x0 x1 x2 x3 x4 x5 = k0_pay10 x0 := by
  unfold sout0_A_0
  rw [View.read_writes_eq_canon _ _ _ (scover0_A_0 c i a1 h1 a2 h2 a3 h3 a4 h4 a5 h5 a6 h6 a7 h7 a8 h8 a9 h9 a10 h10 hc0 hc1 x0 x1 x2 x3 x4 x5)]
  unfold kernelRun0_A
  dsimp only
  sl_unfold_words
  rw [View.canon_unit_zero zeroOff2]
  simp only [View.readAt_eq_ld, h1.read_unread, View.ld_unit_zero (S := S4096x128) zeroOff2]

/-- Point 0 leaves the normalised rows of the second array in the second scratch. -/
theorem clin_A (hc0 : cond0_0 i) (hc1 : ¬cond0_1 i) :
    sout0_A_1 c i a1 h1 a2 h2 a3 h3 a4 h4 a5 h5 a6 h6 a7 h7 a8 h8 a9 h9 a10 h10 hc0 hc1 x0 x1 x2 x3 x4 x5 = k0_pay11 x1 := by
  unfold sout0_A_1
  rw [View.read_writes_eq_canon _ _ _ (scover0_A_1 c i a1 h1 a2 h2 a3 h3 a4 h4 a5 h5 a6 h6 a7 h7 a8 h8 a9 h9 a10 h10 hc0 hc1 x0 x1 x2 x3 x4 x5)]
  unfold kernelRun0_A
  dsimp only
  sl_unfold_words
  rw [View.canon_unit_zero zeroOff2]
  simp only [View.readAt_eq_ld, h2.read_unread, View.ld_unit_zero (S := S4096x128) zeroOff2]

/-- Points 1 and 2 step the accumulator. -/
theorem acc_B (hc0 : ¬cond0_0 i) (hc1 : ¬cond0_1 i) :
    sout0_B_2 c i a1 h1 a2 h2 a3 h3 a4 h4 a5 h5 a6 h6 a7 h7 a8 h8 a9 h9 a10 h10 hc0 hc1 x0 x1 x2 x3 x4 x5 s0 s1 s2
      = accStep i x4 x5 s0 s1 s2 := by
  unfold sout0_B_2
  rw [View.read_writes_eq_canon _ _ _ (scover0_B_2 c i a1 h1 a2 h2 a3 h3 a4 h4 a5 h5 a6 h6 a7 h7 a8 h8 a9 h9 a10 h10 hc0 hc1 x0 x1 x2 x3 x4 x5 s0 s1 s2)]
  unfold kernelRun0_B
  dsimp only
  sl_unfold_words
  rw [View.canon_unit_zero zeroOff2]
  simp only [View.readAt_eq_ld, h5.read_unread, h6.read_unread, h8.read_unread, h9.read_unread, h10.read_unread,
    View.ld_unit_zero (S := S4096x128) zeroOff2, View.ld_unit_zero (S := S1024x1) zeroOff2,
    View.ld_unit_zero (S := S8x4096) zeroOff2]
  rfl

/-- So does point 3. -/
theorem acc_C (hc0 : ¬cond0_0 i) (hc1 : cond0_1 i) :
    sout0_C_2 c i a1 h1 a2 h2 a3 h3 a4 h4 a5 h5 a6 h6 a7 h7 a8 h8 a9 h9 a10 h10 hc0 hc1 x0 x1 x2 x3 x4 x5 s0 s1 s2
      = accStep i x4 x5 s0 s1 s2 := by
  unfold sout0_C_2
  rw [View.read_writes_eq_canon _ _ _ (scover0_C_2 c i a1 h1 a2 h2 a3 h3 a4 h4 a5 h5 a6 h6 a7 h7 a8 h8 a9 h9 a10 h10 hc0 hc1 x0 x1 x2 x3 x4 x5 s0 s1 s2)]
  unfold kernelRun0_C
  dsimp only
  sl_unfold_words
  rw [View.canon_unit_zero zeroOff2]
  simp only [View.readAt_eq_ld, h5.read_unread, h6.read_unread, h8.read_unread, h9.read_unread, h10.read_unread,
    View.ld_unit_zero (S := S4096x128) zeroOff2, View.ld_unit_zero (S := S1024x1) zeroOff2,
    View.ld_unit_zero (S := S8x4096) zeroOff2]
  rfl

/-- Points 1 and 2 leave the normalised image rows as found. -/
theorem imn_B (hc0 : ¬cond0_0 i) (hc1 : ¬cond0_1 i) :
    sout0_B_0 c i a1 h1 a2 h2 a3 h3 a4 h4 a5 h5 a6 h6 a7 h7 a8 h8 a9 h9 a10 h10 hc0 hc1 x0 x1 x2 x3 x4 x5 s0 s1 s2 = s0 := rfl

/-- Points 1 and 2 leave the normalised text rows as found. -/
theorem clin_B (hc0 : ¬cond0_0 i) (hc1 : ¬cond0_1 i) :
    sout0_B_1 c i a1 h1 a2 h2 a3 h3 a4 h4 a5 h5 a6 h6 a7 h7 a8 h8 a9 h9 a10 h10 hc0 hc1 x0 x1 x2 x3 x4 x5 s0 s1 s2 = s1 := rfl

/-- Point 3 leaves the normalised image rows as found. -/
theorem imn_C (hc0 : ¬cond0_0 i) (hc1 : cond0_1 i) :
    sout0_C_0 c i a1 h1 a2 h2 a3 h3 a4 h4 a5 h5 a6 h6 a7 h7 a8 h8 a9 h9 a10 h10 hc0 hc1 x0 x1 x2 x3 x4 x5 s0 s1 s2 = s0 := rfl

/-- Point 3 leaves the normalised text rows as found. -/
theorem clin_C (hc0 : ¬cond0_0 i) (hc1 : cond0_1 i) :
    sout0_C_1 c i a1 h1 a2 h2 a3 h3 a4 h4 a5 h5 a6 h6 a7 h7 a8 h8 a9 h9 a10 h10 hc0 hc1 x0 x1 x2 x3 x4 x5 s0 s1 s2 = s1 := rfl

/-- Point 0 steps the accumulator from its start, over the rows it has just normalised. -/
theorem acc_A (hc0 : cond0_0 i) (hc1 : ¬cond0_1 i) :
    sout0_A_2 c i a1 h1 a2 h2 a3 h3 a4 h4 a5 h5 a6 h6 a7 h7 a8 h8 a9 h9 a10 h10 hc0 hc1 x0 x1 x2 x3 x4 x5
      = accStep i x4 x5 (k0_pay10 x0) (k0_pay11 x1) k0_pay12 := by
  unfold sout0_A_2
  rw [View.read_writes_eq_canon _ _ _ (scover0_A_2 c i a1 h1 a2 h2 a3 h3 a4 h4 a5 h5 a6 h6 a7 h7 a8 h8 a9 h9 a10 h10 hc0 hc1 x0 x1 x2 x3 x4 x5)]
  unfold kernelRun0_A
  dsimp only
  sl_unfold_words
  rw [View.canon_cons_unit_zero (S := S8x4096) zeroOff2]
  simp only [View.readAt_eq_ld, h1.read_unread, h2.read_unread, h5.read_unread, h6.read_unread,
    View.ld_unit_zero (S := S4096x128) zeroOff2, View.ld_unit_zero (S := S1024x1) zeroOff2,
    readCov_whole (S := S4096x128) _ zeroOff2, readCov_whole (S := S8x4096) _ zeroOff2,
    View.ld_unit_zero (S := S8x4096) zeroOff2, View.read_writes_junk_eq_canon,
    View.canon_unit_zero (S := S4096x128) zeroOff2]
  rfl

/-- The word at position `k` of six. -/
def pick {α : Type} (k : ℕ) (w0 w1 w2 w3 w4 w5 : α) : α := match k with
  | 0 => w0
  | 1 => w1
  | 2 => w2
  | 3 => w3
  | 4 => w4
  | _ => w5

/-- Each position's word. -/
theorem pick_0 {α : Type} (w0 w1 w2 w3 w4 w5 : α) : pick 0 w0 w1 w2 w3 w4 w5 = w0 := rfl
theorem pick_1 {α : Type} (w0 w1 w2 w3 w4 w5 : α) : pick 1 w0 w1 w2 w3 w4 w5 = w1 := rfl
theorem pick_2 {α : Type} (w0 w1 w2 w3 w4 w5 : α) : pick 2 w0 w1 w2 w3 w4 w5 = w2 := rfl
theorem pick_3 {α : Type} (w0 w1 w2 w3 w4 w5 : α) : pick 3 w0 w1 w2 w3 w4 w5 = w3 := rfl
theorem pick_4 {α : Type} (w0 w1 w2 w3 w4 w5 : α) : pick 4 w0 w1 w2 w3 w4 w5 = w4 := rfl
theorem pick_5 {α : Type} (w0 w1 w2 w3 w4 w5 : α) : pick 5 w0 w1 w2 w3 w4 w5 = w5 := rfl

/-- Point 3 writes the six minima over the columns, each of one accumulator row and one column group (`t`: the columns'
    labels). -/
def outs (t : Vec F S1x4096 .i32) (acc : Vec F S8x4096 .f32) : Vec F S6 .f32 := fun j => pick (j 0).val
  (k0_pay7 t (accRow ![0, 0] inb_S8x4096_S1x4096_0_0 acc))
  (k0_pay8 t (accRow ![0, 0] inb_S8x4096_S1x4096_0_0 acc))
  (k0_pay9 t (accRow ![1, 0] inb_S8x4096_S1x4096_1_0 acc))
  (k0_pay2 (k0_pay5 t) (accRow ![2, 0] inb_S8x4096_S1x4096_2_0 acc) (Scalar.ofBits .f32 0x447A0000#32))
  (k0_pay3 (k0_pay6 t) (accRow ![2, 0] inb_S8x4096_S1x4096_2_0 acc))
  (k0_pay4 (k0_pay6 t) (accRow ![3, 0] inb_S8x4096_S1x4096_3_0 acc))

/-- A one-word store at position `k` of the six: its word sits at `k`. -/
theorem emb_word (k : ℕ) (h : ∀ a, (![k] : Fin 1 → ℕ) a + (![1] : Fin 1 → ℕ) a ≤ S6.size a)
    (x : (Rect.unit (s := S6) ![k] ![1] h).shape.Idx) : ((Rect.unit (s := S6) ![k] ![1] h).emb x 0).val = k := by
  have hx : (x 0).val < 1 := (x 0).isLt
  show k + 1 * (x 0).val = k
  omega

/-- The six one-word stores, each at its position, hold the words of `outs`. -/
theorem outs_pieces (t : Vec F S1x4096 .i32) (acc : Vec F S8x4096 .f32) :
    ∀ p ∈ ([⟨Rect.unit ![5] ![1] inb_S6_S1_5, fun _ => k0_pay4 (k0_pay6 t) (accRow ![3, 0] inb_S8x4096_S1x4096_3_0 acc)⟩,
        ⟨Rect.unit ![4] ![1] inb_S6_S1_4, fun _ => k0_pay3 (k0_pay6 t) (accRow ![2, 0] inb_S8x4096_S1x4096_2_0 acc)⟩,
        ⟨Rect.unit ![3] ![1] inb_S6_S1_3, fun _ => k0_pay2 (k0_pay5 t) (accRow ![2, 0] inb_S8x4096_S1x4096_2_0 acc) (Scalar.ofBits .f32 0x447A0000#32)⟩,
        ⟨Rect.unit ![2] ![1] inb_S6_S1_2, fun _ => k0_pay9 t (accRow ![1, 0] inb_S8x4096_S1x4096_1_0 acc)⟩,
        ⟨Rect.unit ![1] ![1] inb_S6_S1_1, fun _ => k0_pay8 t (accRow ![0, 0] inb_S8x4096_S1x4096_0_0 acc)⟩,
        ⟨Rect.unit ![0] ![1] inb_S6_S1_0, fun _ => k0_pay7 t (accRow ![0, 0] inb_S8x4096_S1x4096_0_0 acc)⟩] :
        List (View.Piece (Elt F) S6 .f32)), ∀ x : p.1.shape.Idx, p.2 x = outs t acc (p.1.emb x) := by
  intro p hp
  simp only [List.mem_cons, List.not_mem_nil, or_false] at hp
  rcases hp with rfl | rfl | rfl | rfl | rfl | rfl
  · intro x; dsimp only [outs]; rw [emb_word 5]; exact (pick_5 _ _ _ _ _ _).symm
  · intro x; dsimp only [outs]; rw [emb_word 4]; exact (pick_4 _ _ _ _ _ _).symm
  · intro x; dsimp only [outs]; rw [emb_word 3]; exact (pick_3 _ _ _ _ _ _).symm
  · intro x; dsimp only [outs]; rw [emb_word 2]; exact (pick_2 _ _ _ _ _ _).symm
  · intro x; dsimp only [outs]; rw [emb_word 1]; exact (pick_1 _ _ _ _ _ _).symm
  · intro x; dsimp only [outs]; rw [emb_word 0]; exact (pick_0 _ _ _ _ _ _).symm

/-- Point 3's output: the six final minima, over the accumulator it has just stepped. -/
theorem out_C (hc0 : ¬cond0_0 i) (hc1 : cond0_1 i) :
    out0_C_6 c i a1 h1 a2 h2 a3 h3 a4 h4 a5 h5 a6 h6 a7 h7 a8 h8 a9 h9 a10 h10 hc0 hc1 x0 x1 x2 x3 x4 x5 s0 s1 s2
      = outs x2 (accStep i x4 x5 s0 s1 s2) := by
  unfold out0_C_6
  have hcov := cover0_C_6 c i a1 h1 a2 h2 a3 h3 a4 h4 a5 h5 a6 h6 a7 h7 a8 h8 a9 h9 a10 h10 hc0 hc1 x0 x1 x2 x3 x4 x5 s0 s1 s2
  rw [View.read_writes_eq_canon _ _ _ hcov]
  funext y
  refine View.canon_apply_of_pieces (outs x2 (accStep i x4 x5 s0 s1 s2)) _ ?_ y (hcov y)
  unfold kernelRun0_C
  dsimp only
  sl_unfold_words
  simp only [View.readAt_eq_ld, h3.read_unread, h5.read_unread, h6.read_unread, h8.read_unread, h9.read_unread, h10.read_unread,
    View.ld_unit_zero (S := S4096x128) zeroOff2, View.ld_unit_zero (S := S1024x1) zeroOff2,
    View.ld_unit_zero (S := S8x4096) zeroOff2, View.ld_unit_zero (S := S1x4096) zeroOff2,
    readCov_whole (S := S8x4096) _ zeroOff2]
  exact outs_pieces x2 (accStep i x4 x5 s0 s1 s2)

end

end Cert.KernelIdeal.Value

end
-- ==== Proof.Final.lean ====
/- The whole launch: what the three scratch buffers hold after each of the four points, the final array, and the run. -/
module

public import proofs.«01_k».proof.Proof.Cases
public import proofs.«01_k».proof.Proof.Gen.KernelIdeal.Value

@[expose] public section

set_option maxRecDepth 16384

noncomputable section

namespace Cert.KernelIdeal.Value

open Cert.KernelIdeal Cert.KernelIdeal.Gen Idealize.ShloMosaic Idealize.ShloMosaic.TcCoe Idealize.ShloMosaic.Tactic
open Idealize.SL.Sem

variable {F : FTy → Type} [FloatOps F]
variable (m : (ℓ : Loc nD τ sig) → Buf (Elt F) ℓ) (ρ : Dev nD → PrngReg)

/-- The image rows, normalised: what point 0 stores and every point reads. -/
def imnV (c : Dev nD) : Vec F S4096x128 .bf16 := k0_pay10 (iblk m c 0 t0_0)

/-- The text rows, normalised. -/
def clinV (c : Dev nD) : Vec F S4096x128 .bf16 := k0_pay11 (iblk m c 1 t0_0)

/-- The accumulator after point `n`: a step per point, from its start. -/
def accV (c : Dev nD) : (n : ℕ) → n < cfg0.N → Vec F S8x4096 .f32
  | 0, h => accStep (grid0.coords ⟨0, h⟩) (iblk m c 4 ⟨0, h⟩) (iblk m c 5 ⟨0, h⟩) (imnV m c) (clinV m c) k0_pay12
  | n + 1, h => accStep (grid0.coords ⟨n + 1, h⟩) (iblk m c 4 ⟨n + 1, h⟩) (iblk m c 5 ⟨n + 1, h⟩) (imnV m c) (clinV m c)
      (accV c n (Nat.lt_of_succ_lt h))

/-- After point `n` the three scratch buffers hold the normalised rows of both arrays and the accumulator. -/
theorem scratch_eq (c : Dev nD) : ∀ (n : ℕ) (h : n < cfg0.N),
    (outsAt0 m c n h).2.1 = imnV m c ∧ (outsAt0 m c n h).2.2.1 = clinV m c ∧ (outsAt0 m c n h).2.2.2 = accV m c n h
  | 0, h => by
    have h1 : ¬(⟨0, h⟩ : Fin cfg0.N).val % 4 = 3 := by dsimp only; omega
    rw [outsAt0_A m c ⟨0, h⟩ rfl h1]
    dsimp only
    rw [imn_A, clin_A, acc_A]
    exact ⟨rfl, rfl, rfl⟩
  | n + 1, h => by
    have h0 : ¬(⟨n + 1, h⟩ : Fin cfg0.N).val % 4 = 0 := by
      have hN : cfg0.N = 4 := N_0
      dsimp only; omega
    obtain ⟨e0, e1, e2⟩ := scratch_eq c n (Nat.lt_of_succ_lt h)
    by_cases h1 : (⟨n + 1, h⟩ : Fin cfg0.N).val % 4 = 3
    · rw [outsAt0_C m c ⟨n + 1, h⟩ h0 h1]
      dsimp only
      rw [imn_C, clin_C, acc_C]
      refine ⟨e0, e1, ?_⟩
      show accStep _ _ _ (outsAt0 m c n _).2.1 (outsAt0 m c n _).2.2.1 (outsAt0 m c n _).2.2.2 = _
      rw [e0, e1, e2]; rfl
    · rw [outsAt0_B m c ⟨n + 1, h⟩ h0 h1]
      dsimp only
      rw [imn_B, clin_B, acc_B]
      refine ⟨e0, e1, ?_⟩
      show accStep _ _ _ (outsAt0 m c n _).2.1 (outsAt0 m c n _).2.2.1 (outsAt0 m c n _).2.2.2 = _
      rw [e0, e1, e2]; rfl

/-- Point 3 is one of the four. -/
theorem lt3 : 3 < cfg0.N := t0_3.isLt

/-- The result: the six minima over the accumulator after the last point. -/
def result (c : Dev nD) : Buf (Elt F) ((c : Thread nD τ).loc main_v6) := outs (iblk m c 2 t0_3) (accV m c 3 lt3)

/-- The output block after the last point. -/
theorem out_last (c : Dev nD) : (outsAt0 m c t0_3.val t0_3.isLt).1 = result m c := by
  rw [outsAt0_C m c t0_3 (by decide) rfl]
  dsimp only
  obtain ⟨e0, e1, e2⟩ := scratch_eq m c 2 (Nat.lt_of_succ_lt lt3)
  rw [out_C]
  show outs _ (accStep _ _ _ (outsAt0 m c 2 _).2.1 (outsAt0 m c 2 _).2.2.1 (outsAt0 m c 2 _).2.2.2) = _
  rw [e0, e1, e2]; rfl

/-- The one write-back, at point 3, writes the result: its block is the whole array. -/
theorem flushed_eq (c : Dev nD) (t : Fin cfg0.N) (hf : (cfg0.win 6).flush t = true) :
    (dats m 0 c).flushed 6 t = ((cfg0.win 6).blk t).view.read (Elt F) (result m c) := by
  have hN : cfg0.N = 4 := N_0
  have h3 : t.val = 3 := by have := (flush0_6 t).mp hf; have := t.isLt; omega
  obtain rfl : t = t0_3 := Fin.ext h3
  show (cfg0.win 6).cut (grid0.coords t0_3) ((dats m 0 c).after 6 t0_3) = _
  rw [after0_6, out_last]
  have hz' : (fun a => win0_6.index t0_3 a * main_v6.ty.shape.size a) = fun _ => 0 := funext fun a => by fin_cases a; decide
  exact (Memref.read_access_unit_zero (Elt F) main_v6 hz' (fun a => by rw [congrFun hz' a]; simp) (result m c)).symm

/-- The array ends holding the result. -/
theorem final_out (c : Dev nD) : (dats m 0 c).arrAt 6 cfg0.N = result m c :=
  (dats m 0 c).arrAt_eq_of_cover 6 (result m c) (flushed_eq m c) fun i =>
    ⟨t0_3, (flush0_6 t0_3).mpr rfl, by
      show i ∈ ((View.whole main_v6).slice (win0_6.rect t0_3)).set
      rw [View.set_slice_whole, Rect.mem_set_unit]
      intro a
      have h0 : (i 0 : Nat) < 6 := (i 0).isLt
      match a with
      | ⟨0, _⟩ =>
        show win0_6.index t0_3 0 * win0_6.size 0 ≤ (i 0 : Nat) ∧ (i 0 : Nat) < win0_6.index t0_3 0 * win0_6.size 0 + win0_6.xsize (grid0.coords t0_3) 0
        rw [show win0_6.index t0_3 0 * win0_6.size 0 = 0 from by decide +kernel, show win0_6.xsize (grid0.coords t0_3) 0 = 6 from by decide +kernel]
        omega⟩

/-- The run: the output array ends at the result and the arguments end as launched. -/
theorem run_result : θ_run defs (onTc (τ := τ) (main (F := F))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_out m c), (h c).2⟩) (run_blocks m ρ)

end Cert.KernelIdeal.Value
-- ==== Proof.Minima.lean ====
/-
  THE EQUATION, as mathematics over the extended reals: the minimum over the pairs of two disjoint groups, against the
  same minimum taken in stages.

  `pairMin P Q S` is the minimum over all pairs `(i, j)` of `S i j` where `i` is in the group `P` and `j` in the group `Q`,
  and of 1000 at every other pair. The staged form takes, for each column `j`, the minimum over the rows alone (1000 first,
  then four blocks of 1024 rows), and then the minimum over the columns. The two agree because the groups are disjoint: a
  pair `(i, i)` is never in both, so 1000 is always among the numbers compared.
-/
module

public import Idealize.ShloMosaic.Lib.Pointwise

@[expose] public section

noncomputable section

namespace Cert.Minima

open Idealize.ShloMosaic

/-- The number at the pairs outside the groups, 1000. -/
def big : EReal := Ideal.ofBits .f32 0x447A0000#32

/-- The least norm divided by. -/
def eps : EReal := Ideal.ofBits .f32 0x2B8CBCCC#32

/-- The 32-bit pattern of `+∞` denotes `⊤`. -/
theorem top32 : Ideal.ofBits .f32 0x7F800000#32 = (⊤ : EReal) := by
  simp [Ideal.ofBits, Ideal.ieee]

/-- So does the 16-bit pattern. -/
theorem top16 : Ideal.ofBits .bf16 0x7F80#16 = (⊤ : EReal) := by
  simp [Ideal.ofBits, Ideal.ieee]

/-- 1000 is the same number in either format. -/
theorem big16 : Ideal.ofBits .bf16 0x447A#16 = big := by
  simp [big, Ideal.ofBits, Ideal.ieee]
  norm_cast
  norm_num

/-- A row over its norm, the norm at least `eps`. -/
def normed (x : Fin 4096 → Fin 128 → EReal) (i : Fin 4096) (k : Fin 128) : EReal :=
  Ideal.div (x i k) (max eps (Ideal.sqrt (∑ l, x i l * x i l)))

/-- The similarity of rows `i` and `j`: the product of the two normalised rows. -/
def sim (x : Fin 4096 → Fin 128 → EReal) (i j : Fin 4096) : EReal := ∑ k, normed x i k * normed x j k

/-- The rows of block `n`, each by its place in the array. -/
def rowAt (n : ℕ) (h : n < 4) (r : Fin 1024) : Fin 4096 := ⟨1024 * n + r.val, by have := r.isLt; omega⟩

/-- The minimum over the rows of block `n`: `S` at the rows of the group `P`, 1000 at the others. -/
def blockMin (P : Fin 4096 → BitVec 1) (S : Fin 4096 → EReal) (n : ℕ) (h : n < 4) : EReal :=
  Finset.univ.fold min ⊤ fun r => Scalar.select (P (rowAt n h r)) (S (rowAt n h r)) big

/-- The minimum over all pairs: `S` at the pairs of the groups `P` and `Q`, 1000 at the others. -/
def pairMin (P Q : Fin 4096 → BitVec 1) (S : Fin 4096 → Fin 4096 → EReal) : EReal :=
  Finset.univ.fold min ⊤ fun p : Fin 4096 × Fin 4096 => Scalar.select (IntOp.andi (P p.1) (Q p.2)) (S p.1 p.2) big

/-- The minimum over the columns: `a` at the columns of the group `Q`, 1000 at the others. -/
def colMin (Q : Fin 4096 → BitVec 1) (a : Fin 4096 → EReal) : EReal :=
  Finset.univ.fold min ⊤ fun p : Fin 1 × Fin 4096 => Scalar.select (Q p.2) (a p.2) big

/-- Below a block's minimum: below its every entry. -/
theorem le_blockMin (P : Fin 4096 → BitVec 1) (S : Fin 4096 → EReal) (n : ℕ) (h : n < 4) (z : EReal) :
    z ≤ blockMin P S n h ↔ ∀ r, z ≤ Scalar.select (P (rowAt n h r)) (S (rowAt n h r)) big := by
  simp [blockMin, Finset.le_fold_min]

/-- Below a minimum that starts at 1000 and takes the blocks one by one: below 1000 and below every entry of the blocks
    taken. -/
theorem le_stages (P : Fin 4096 → BitVec 1) (S : Fin 4096 → EReal) (a : (n : ℕ) → n < 4 → EReal)
    (h0 : ∀ h, a 0 h = min big (blockMin P S 0 h))
    (hs : ∀ n h, a (n + 1) h = min (a n (Nat.lt_of_succ_lt h)) (blockMin P S (n + 1) h)) (z : EReal) :
    ∀ n h, z ≤ a n h ↔ z ≤ big ∧ ∀ s (hs : s < 4), s ≤ n → ∀ r, z ≤ Scalar.select (P (rowAt s hs r)) (S (rowAt s hs r)) big
  | 0, h => by
    rw [h0, le_min_iff, le_blockMin]
    refine and_congr_right fun _ => ⟨fun H s hs hle => ?_, fun H => H 0 h le_rfl⟩
    obtain rfl : s = 0 := Nat.le_zero.mp hle
    exact H
  | n + 1, h => by
    rw [hs, le_min_iff, le_blockMin, le_stages P S a h0 hs z n, and_assoc]
    refine and_congr_right fun _ => ⟨fun H s hs hle => ?_, fun H => ⟨fun s hs hle => H s hs (Nat.le_succ_of_le hle), H (n + 1) h le_rfl⟩⟩
    rcases Nat.lt_or_ge n s with hlt | hge
    · obtain rfl : s = n + 1 := by omega
      exact H.2
    · exact H.1 s hs hge

/-- After the four blocks: below 1000 and below every row's entry. -/
theorem le_all (P : Fin 4096 → BitVec 1) (S : Fin 4096 → EReal) (a : (n : ℕ) → n < 4 → EReal)
    (h0 : ∀ h, a 0 h = min big (blockMin P S 0 h))
    (hs : ∀ n h, a (n + 1) h = min (a n (Nat.lt_of_succ_lt h)) (blockMin P S (n + 1) h)) (z : EReal) (h3 : 3 < 4) :
    z ≤ a 3 h3 ↔ z ≤ big ∧ ∀ i, z ≤ Scalar.select (P i) (S i) big := by
  rw [le_stages P S a h0 hs z 3 h3]
  refine and_congr_right fun _ => ⟨fun H i => ?_, fun H s hs _ r => H _⟩
  have hi := i.isLt
  have e : rowAt (i.val / 1024) (by omega) ⟨i.val % 1024, Nat.mod_lt _ (by decide)⟩ = i :=
    Fin.ext (Nat.div_add_mod i.val 1024)
  rw [← e]
  exact H _ _ (by omega) _

/-- Choosing between two numbers, where the bit is 1. -/
theorem select_one (x y : EReal) : Scalar.select 1#1 x y = x := rfl

/-- Choosing between two numbers, where the bit is 0. -/
theorem select_zero (x y : EReal) : Scalar.select 0#1 x y = y := rfl

/-- The equation: for disjoint groups, the minimum over the columns of the staged minima over the rows is the minimum over
    all pairs. -/
theorem colMin_eq_pairMin (P Q : Fin 4096 → BitVec 1) (S : Fin 4096 → Fin 4096 → EReal) (hd : ∀ i, IntOp.andi (P i) (Q i) = 0#1)
    (a : Fin 4096 → (n : ℕ) → n < 4 → EReal)
    (h0 : ∀ j h, a j 0 h = min big (blockMin P (S · j) 0 h))
    (hs : ∀ j n h, a j (n + 1) h = min (a j n (Nat.lt_of_succ_lt h)) (blockMin P (S · j) (n + 1) h)) (h3 : 3 < 4) :
    colMin Q (fun j => a j 3 h3) = pairMin P Q S := by
  refine eq_of_forall_le_iff fun z => ?_
  have hb (b : BitVec 1) : b = 0#1 ∨ b = 1#1 := by revert b; decide
  have hl : z ≤ colMin Q (fun j => a j 3 h3) ↔ ∀ j, z ≤ Scalar.select (Q j) (a j 3 h3) big := by
    simp [colMin, Finset.le_fold_min]
  have hr : z ≤ pairMin P Q S ↔ ∀ i j, z ≤ Scalar.select (IntOp.andi (P i) (Q j)) (S i j) big := by
    simp [pairMin, Finset.le_fold_min]
  rw [hl, hr]
  have one (b : BitVec 1) : IntOp.andi b 1#1 = b := by revert b; decide
  have zero (b : BitVec 1) : IntOp.andi b 0#1 = 0#1 := by revert b; decide
  constructor
  · intro H i j
    have := H j
    rcases hb (Q j) with e | e
    · rw [e, zero, select_zero]; rwa [e, select_zero] at this
    · rw [e, select_one, le_all P (S · j) (a j) (h0 j) (hs j)] at this
      rw [e, one]
      exact this.2 i
  · intro H j
    have hz : z ≤ big := by have := H j j; rwa [hd, select_zero] at this
    rcases hb (Q j) with e | e
    · rw [e, select_zero]; exact hz
    · rw [e, select_one, le_all P (S · j) (a j) (h0 j) (hs j)]
      refine ⟨hz, fun i => ?_⟩
      have := H i j
      rwa [e, one] at this

/-! ## The groups and the six results -/

/-- The group of the indices that carry the label `l`. -/
def lab (t : Fin 4096 → BitVec 32) (l : BitVec 32) (i : Fin 4096) : BitVec 1 := IntOp.cmpi .eq (t i) l

/-- The indices of label 0 whose other label is 1. -/
def lab2 (t tr : Fin 4096 → BitVec 32) (i : Fin 4096) : BitVec 1 := IntOp.andi (lab t 0#32 i) (lab tr 1#32 i)

/-- Groups of two different labels are disjoint. -/
theorem lab_disjoint (t : Fin 4096 → BitVec 32) (l l' : BitVec 32) (h : l ≠ l') (i : Fin 4096) :
    IntOp.andi (lab t l i) (lab t l' i) = 0#1 := by
  have key : ∀ a b : Bool, (a && b) = false → IntOp.andi (BitVec.ofBool a) (BitVec.ofBool b) = 0#1 := by decide
  refine key (t i == l) (t i == l') ?_
  by_cases h1 : t i = l
  · rw [beq_false_of_ne (fun e : t i = l' => h (h1.symm.trans e)), Bool.and_false]
  · rw [beq_false_of_ne h1, Bool.false_and]

/-- The narrower group of label 0 is disjoint from the group of any other label. -/
theorem lab2_disjoint (t tr : Fin 4096 → BitVec 32) (l' : BitVec 32) (h : 0#32 ≠ l') (i : Fin 4096) :
    IntOp.andi (lab2 t tr i) (lab t l' i) = 0#1 := by
  have key : ∀ a b d : BitVec 1, IntOp.andi a d = 0#1 → IntOp.andi (IntOp.andi a b) d = 0#1 := by decide
  exact key _ _ _ (lab_disjoint t 0#32 l' h i)

/-- The six results: for each of the two arrays `x`, `y`, the three pairs of groups. -/
def six (x y : Fin 4096 → Fin 128 → EReal) (t tr : Fin 4096 → BitVec 32) : Fin 6 → EReal
  | 0 => pairMin (lab2 t tr) (lab t 1#32) (sim x)
  | 1 => pairMin (lab2 t tr) (lab t 2#32) (sim x)
  | 2 => pairMin (lab t 1#32) (lab t 2#32) (sim x)
  | 3 => pairMin (lab2 t tr) (lab t 1#32) (sim y)
  | 4 => pairMin (lab2 t tr) (lab t 2#32) (sim y)
  | 5 => pairMin (lab t 1#32) (lab t 2#32) (sim y)

end Cert.Minima

end
-- ==== Proof.Blocks.lean ====
/- What each window's block holds, read from the arguments. -/
module

public import proofs.«01_k».proof.Proof.Final
public import Idealize.ShloMosaic.Lib.Pointwise
public import Idealize.ShloMosaic.Lib.Tactic.CleanTypes
public import proofs.«01_k».proof.Proof.Minima

@[expose] public section

set_option maxRecDepth 16384

noncomputable section

namespace Cert.KernelIdeal.Value

open Cert.KernelIdeal Cert.KernelIdeal.Gen Idealize.ShloMosaic Idealize.ShloMosaic.TcCoe Idealize.ShloMosaic.Tactic

variable {F : FTy → Type} [FloatOps F]
variable (m : (ℓ : Loc nD τ sig) → Buf (Elt F) ℓ)

/-- The arguments: two arrays of rows, the labels' array and the other label. -/
abbrev arg0 (c : Dev nD) : Vec F S4096x128 .f32 := m ((c : Thread nD τ).loc main_arg0)
abbrev arg1 (c : Dev nD) : Vec F S4096x128 .f32 := m ((c : Thread nD τ).loc main_arg1)
abbrev arg2 (c : Dev nD) : Vec F S4096x2 .i32 := m ((c : Thread nD τ).loc main_arg2)
abbrev arg3 (c : Dev nD) : Vec F S4096 .i32 := m ((c : Thread nD τ).loc main_arg3)

/-- Window 0's block is the whole first argument. -/
theorem iblk0_eq (c : Dev nD) : (iblk m c 0 t0_0 : Vec F S4096x128 .f32) = arg0 m c := by
  funext j
  unfold iblk
  rw [View.read_apply]
  show V m c main_arg0 _ = _
  rw [V_main_arg0]
  congr 1
  funext a
  apply Fin.ext
  match a with
  | ⟨0, _⟩ => show win0_0.index t0_0 0 * 4096 + 1 * (j 0).val = (j 0).val; rw [show win0_0.index t0_0 0 = 0 from by decide +kernel]; omega
  | ⟨1, _⟩ => show win0_0.index t0_0 1 * 128 + 1 * (j 1).val = (j 1).val; rw [show win0_0.index t0_0 1 = 0 from by decide +kernel]; omega

/-- Window 1's block is the whole second argument. -/
theorem iblk1_eq (c : Dev nD) : (iblk m c 1 t0_0 : Vec F S4096x128 .f32) = arg1 m c := by
  funext j
  unfold iblk
  rw [View.read_apply]
  show V m c main_arg1 _ = _
  rw [V_main_arg1]
  congr 1
  funext a
  apply Fin.ext
  match a with
  | ⟨0, _⟩ => show win0_1.index t0_0 0 * 4096 + 1 * (j 0).val = (j 0).val; rw [show win0_1.index t0_0 0 = 0 from by decide +kernel]; omega
  | ⟨1, _⟩ => show win0_1.index t0_0 1 * 128 + 1 * (j 1).val = (j 1).val; rw [show win0_1.index t0_0 1 = 0 from by decide +kernel]; omega

/-- The labels as one row. -/
theorem V2_apply (c : Dev nD) (j : Fin 4096) : (V m c main_v2 : Vec F S1x4096 .i32) (ix2 0 j) = arg2 m c (ix2 j 1) := by
  entry_read
  clean_types
  pointwise

/-- The labels as one column. -/
theorem V4_apply (c : Dev nD) (j : Fin 4096) : (V m c main_v4 : Vec F S4096x1 .i32) (ix2 j 0) = arg2 m c (ix2 j 1) := by
  entry_read
  clean_types
  pointwise

/-- The other label as one column. -/
theorem V5_apply (c : Dev nD) (j : Fin 4096) : (V m c main_v5 : Vec F S4096x1 .i32) (ix2 j 0) = arg3 m c (ix1 j) := by
  entry_read
  clean_types
  pointwise

/-- Window 2's block at the last point: the columns' labels. -/
theorem iblk2_apply (c : Dev nD) (j : Fin 4096) : (iblk m c 2 t0_3 : Vec F S1x4096 .i32) (ix2 0 j) = arg2 m c (ix2 j 1) := by
  rw [← V2_apply]
  unfold iblk
  rw [View.read_apply]
  show V m c main_v2 _ = V m c main_v2 _
  congr 1
  funext a
  apply Fin.ext
  match a with
  | ⟨0, _⟩ => show win0_2.index t0_3 0 * 1 + 1 * 0 = 0; rw [show win0_2.index t0_3 0 = 0 from by decide +kernel]
  | ⟨1, _⟩ => show win0_2.index t0_3 1 * 4096 + 1 * j.val = j.val; rw [show win0_2.index t0_3 1 = 0 from by decide +kernel]; omega

/-- The point `n`. -/
abbrev pt (n : ℕ) (h : n < 4) : Fin cfg0.N := ⟨n, h.trans_eq N_0.symm⟩

/-- Window 4's block at point `n`: the labels of block `n`'s rows. -/
theorem iblk4_apply (c : Dev nD) (n : ℕ) (h : n < 4) (r : Fin 1024) :
    (iblk m c 4 (pt n h) : Vec F S1024x1 .i32) (ix2 r 0) = arg2 m c (ix2 (Minima.rowAt n h r) 1) := by
  rw [← V4_apply]
  have hi : win0_4.index (pt n h) 0 = n ∧ win0_4.index (pt n h) 1 = 0 := by
    interval_cases n <;> decide +kernel +revert
  unfold iblk
  rw [View.read_apply]
  show V m c main_v4 _ = V m c main_v4 _
  congr 1
  funext a
  apply Fin.ext
  match a with
  | ⟨0, _⟩ => show win0_4.index (pt n h) 0 * 1024 + 1 * r.val = 1024 * n + r.val; rw [hi.1]; omega
  | ⟨1, _⟩ => show win0_4.index (pt n h) 1 * 1 + 1 * 0 = 0; rw [hi.2]

/-- Window 5's block at point `n`: the other label of block `n`'s rows. -/
theorem iblk5_apply (c : Dev nD) (n : ℕ) (h : n < 4) (r : Fin 1024) :
    (iblk m c 5 (pt n h) : Vec F S1024x1 .i32) (ix2 r 0) = arg3 m c (ix1 (Minima.rowAt n h r)) := by
  rw [← V5_apply]
  have hi : win0_5.index (pt n h) 0 = n ∧ win0_5.index (pt n h) 1 = 0 := by
    interval_cases n <;> decide +kernel +revert
  unfold iblk
  rw [View.read_apply]
  show V m c main_v5 _ = V m c main_v5 _
  congr 1
  funext a
  apply Fin.ext
  match a with
  | ⟨0, _⟩ => show win0_5.index (pt n h) 0 * 1024 + 1 * r.val = 1024 * n + r.val; rw [hi.1]; omega
  | ⟨1, _⟩ => show win0_5.index (pt n h) 1 * 1 + 1 * 0 = 0; rw [hi.2]

/-- The row block a point reads: the rows of block `n`. -/
theorem rowBlock_apply (n : ℕ) (h : n < 4) (v : Vec F S4096x128 .bf16) (r : Fin 1024) (k : Fin 128) :
    (rowBlock (grid0.coords (pt n h)) v : Vec F S1024x128 .bf16) (ix2 r k) = v (ix2 (Minima.rowAt n h r) k) := by
  have hi : k0_off1 (grid0.coords (pt n h)) 0 = 1024 * n ∧ k0_off1 (grid0.coords (pt n h)) 1 = 0 := by
    interval_cases n <;> decide +kernel +revert
  show v _ = v _
  congr 1
  funext a
  apply Fin.ext
  match a with
  | ⟨0, _⟩ => show k0_off1 (grid0.coords (pt n h)) 0 + 1 * r.val = 1024 * n + r.val; rw [hi.1]; omega
  | ⟨1, _⟩ => show k0_off1 (grid0.coords (pt n h)) 1 + 1 * k.val = k.val; rw [hi.2]; omega

end Cert.KernelIdeal.Value

end
-- ==== Proof.Step.lean ====
/- One point's step and the final minima, read entry by entry over the extended reals. -/
module

public import proofs.«01_k».proof.Proof.Blocks

@[expose] public section

set_option maxRecDepth 16384

noncomputable section

namespace Cert.KernelIdeal.Value

open Cert.KernelIdeal Cert.KernelIdeal.Gen Idealize.ShloMosaic Idealize.ShloMosaic.TcCoe Idealize.ShloMosaic.Tactic
open Cert.Minima

variable (m : (ℓ : Loc nD τ sig) → Buf (Elt Ideal) ℓ)

/-- An array's entries by row and column. -/
abbrev entries (x : Vec Ideal S4096x128 .f32) (i : Fin 4096) (k : Fin 128) : EReal := x (ix2 i k)

/-- The labels. -/
abbrev tl (c : Dev nD) (i : Fin 4096) : BitVec 32 := arg2 m c (ix2 i 1)

/-- The other labels. -/
abbrev trl (c : Dev nD) (i : Fin 4096) : BitVec 32 := arg3 m c (ix1 i)

/-- What point 0 stores of the first array: its rows, normalised. -/
theorem pay10_apply (x : Vec Ideal S4096x128 .f32) (i : Fin 4096) (k : Fin 128) :
    k0_pay10 x (ix2 i k) = normed (entries x) i k := by
  pointwise [k0_pay10]
  rfl

/-- The same of the second. -/
theorem pay11_apply (x : Vec Ideal S4096x128 .f32) (i : Fin 4096) (k : Fin 128) :
    k0_pay11 x (ix2 i k) = normed (entries x) i k := by
  pointwise [k0_pay11]
  rfl

/-- The accumulator starts at 1000. -/
theorem pay12_apply (r : Fin 8) (j : Fin 4096) : (k0_pay12 : FVec Ideal S8x4096 .f32) (ix2 r j) = big := by
  pointwise [k0_pay12]
  rfl

/-- The minimum over a block's rows: `s` at the rows the bits choose, 1000 at the others. -/
def overRows (b : Fin 1024 → BitVec 1) (s : Fin 1024 → EReal) : EReal :=
  Finset.univ.fold min ⊤ fun r => Scalar.select (b r) (s r) big

/-- The product of row `r` of a block with row `j` of the array. -/
abbrev prod (B : Vec Ideal S1024x128 .bf16) (A : Vec Ideal S4096x128 .bf16) (j : Fin 4096) (r : Fin 1024) : EReal :=
  ∑ k, (B (ix2 r k) : EReal) * A (ix2 j k)

/-- The two groups of a block's rows. -/
theorem pay13_apply (t tr : Vec Ideal S1024x1 .i32) (r : Fin 1024) : k0_pay13 t tr (ix2 r 0)
    = IntOp.andi (IntOp.cmpi .eq (t (ix2 r 0)) 0#32) (IntOp.cmpi .eq (tr (ix2 r 0)) 1#32) := by
  pointwise [k0_pay13]

theorem pay14_apply (t : Vec Ideal S1024x1 .i32) (r : Fin 1024) :
    k0_pay14 t (ix2 r 0) = IntOp.cmpi .eq (t (ix2 r 0)) 1#32 := by
  pointwise [k0_pay14]

/-- The column minima of the first array, over the first group of rows and over the second. -/
theorem pay17_apply (t tr : Vec Ideal S1024x1 .i32) (A : Vec Ideal S4096x128 .bf16) (B : Vec Ideal S1024x128 .bf16) (j : Fin 4096) :
    k0_pay17 t tr A B (ix2 0 j) = overRows (fun r => k0_pay13 t tr (ix2 r 0)) (prod B A j) := by
  pointwise [k0_pay17, k0_pay15]
  rw [top16, big16]
  rfl

theorem pay16_apply (t : Vec Ideal S1024x1 .i32) (A : Vec Ideal S4096x128 .bf16) (B : Vec Ideal S1024x128 .bf16) (j : Fin 4096) :
    k0_pay16 t A B (ix2 0 j) = overRows (fun r => k0_pay14 t (ix2 r 0)) (prod B A j) := by
  pointwise [k0_pay16, k0_pay15]
  rw [top16, big16]
  rfl

section
variable (p q : IVec S1024x1 1) (A : Vec Ideal S4096x128 .bf16) (u : FVec Ideal S1x4096 .bf16) (v : FVec Ideal S1x4096 .f32)
  (B : Vec Ideal S1024x128 .bf16) (acc : Vec Ideal S8x4096 .f32) (j : Fin 4096)

/-- Row 0 of the stepped accumulator. -/
theorem pay1_row0 : k0_pay1 p q A u v B acc (ix2 0 j) = min (acc (ix2 0 j)) (v (ix2 0 j)) := by
  pointwise [k0_pay1]

/-- Row 1. -/
theorem pay1_row1 : k0_pay1 p q A u v B acc (ix2 1 j) = min (acc (ix2 1 j)) (u (ix2 0 j)) := by
  pointwise [k0_pay1]

/-- Row 2. -/
theorem pay1_row2 : k0_pay1 p q A u v B acc (ix2 2 j) = min (acc (ix2 2 j)) (overRows (fun r => p (ix2 r 0)) (prod B A j)) := by
  pointwise [k0_pay1]
  rw [top16, big16]
  rfl

/-- Row 3. -/
theorem pay1_row3 : k0_pay1 p q A u v B acc (ix2 3 j) = min (acc (ix2 3 j)) (overRows (fun r => q (ix2 r 0)) (prod B A j)) := by
  pointwise [k0_pay1]
  rw [top16, big16]
  rfl
end

/-- The product of a block's row with the array's row `j` is the similarity of the two. -/
theorem prod_rowBlock (n : ℕ) (h : n < 4) (x : Vec Ideal S4096x128 .f32) (A : Vec Ideal S4096x128 .bf16)
    (hA : ∀ i k, A (ix2 i k) = normed (entries x) i k) (j : Fin 4096) (r : Fin 1024) :
    prod (rowBlock (grid0.coords (pt n h)) A) A j r = sim (entries x) (rowAt n h r) j :=
  Finset.sum_congr rfl fun k _ => congrArg₂ (fun a b : EReal => a * b) ((rowBlock_apply n h A r k).trans (hA _ k)) (hA j k)

/-- A block's minimum over its first group of rows, for an array normalised. -/
theorem overRows_first (c : Dev nD) (n : ℕ) (h : n < 4) (x : Vec Ideal S4096x128 .f32) (A : Vec Ideal S4096x128 .bf16)
    (hA : ∀ i k, A (ix2 i k) = normed (entries x) i k) (j : Fin 4096) :
    overRows (fun r => k0_pay13 (iblk m c 4 (pt n h)) (iblk m c 5 (pt n h)) (ix2 r 0)) (prod (rowBlock (grid0.coords (pt n h)) A) A j)
      = blockMin (lab2 (tl m c) (trl m c)) (sim (entries x) · j) n h := by
  unfold overRows blockMin
  congr 1
  funext r
  beta_reduce
  rw [pay13_apply, iblk4_apply, iblk5_apply]
  rw [prod_rowBlock n h x A hA]
  rfl

/-- The same over its second group. -/
theorem overRows_second (c : Dev nD) (n : ℕ) (h : n < 4) (x : Vec Ideal S4096x128 .f32) (A : Vec Ideal S4096x128 .bf16)
    (hA : ∀ i k, A (ix2 i k) = normed (entries x) i k) (j : Fin 4096) :
    overRows (fun r => k0_pay14 (iblk m c 4 (pt n h)) (ix2 r 0)) (prod (rowBlock (grid0.coords (pt n h)) A) A j)
      = blockMin (lab (tl m c) 1#32) (sim (entries x) · j) n h := by
  unfold overRows blockMin
  congr 1
  funext r
  beta_reduce
  rw [pay14_apply, iblk4_apply]
  rw [prod_rowBlock n h x A hA]
  rfl

/-- The first array as the kernel reads it. -/
theorem imn_apply (c : Dev nD) (i : Fin 4096) (k : Fin 128) : imnV m c (ix2 i k) = normed (entries (arg0 m c)) i k := by
  unfold imnV
  rw [iblk0_eq, pay10_apply]

/-- The second. -/
theorem clin_apply (c : Dev nD) (i : Fin 4096) (k : Fin 128) : clinV m c (ix2 i k) = normed (entries (arg1 m c)) i k := by
  unfold clinV
  rw [iblk1_eq, pay11_apply]

/-- The group and the array of each of the accumulator's four rows in use. -/
def rowP (c : Dev nD) (r : Fin 4) : Fin 4096 → BitVec 1 := match r with
  | 0 => lab2 (tl m c) (trl m c)
  | 1 => lab (tl m c) 1#32
  | 2 => lab2 (tl m c) (trl m c)
  | 3 => lab (tl m c) 1#32

def rowX (c : Dev nD) (r : Fin 4) : Vec Ideal S4096x128 .f32 := match r with
  | 0 => arg0 m c
  | 1 => arg0 m c
  | 2 => arg1 m c
  | 3 => arg1 m c

/-- One point's step, at any of the four rows: the minimum with the block's minimum. -/
theorem step_apply (c : Dev nD) (n : ℕ) (h : n < 4) (acc : Vec Ideal S8x4096 .f32) (r : Fin 4) (j : Fin 4096) :
    accStep (grid0.coords (pt n h)) (iblk m c 4 (pt n h)) (iblk m c 5 (pt n h)) (imnV m c) (clinV m c) acc (ix2 (r.castLE (by decide)) j)
      = min (acc (ix2 (r.castLE (by decide)) j)) (blockMin (rowP m c r) (sim (entries (rowX m c r)) · j) n h) := by
  unfold accStep
  match r with
  | 0 => exact (pay1_row0 ..).trans (by rw [pay17_apply, overRows_first m c n h (arg0 m c) _ (imn_apply m c)]; rfl)
  | 1 => exact (pay1_row1 ..).trans (by rw [pay16_apply, overRows_second m c n h (arg0 m c) _ (imn_apply m c)]; rfl)
  | 2 => exact (pay1_row2 ..).trans (by rw [overRows_first m c n h (arg1 m c) _ (clin_apply m c)]; rfl)
  | 3 => exact (pay1_row3 ..).trans (by rw [overRows_second m c n h (arg1 m c) _ (clin_apply m c)]; rfl)

/-- The accumulator's row `r` at column `j` after point `n`. -/
def accAt (c : Dev nD) (r : Fin 4) (j : Fin 4096) (n : ℕ) (h : n < 4) : EReal :=
  accV m c n (h.trans_eq N_0.symm) (ix2 (r.castLE (by decide)) j)

theorem accAt_zero (c : Dev nD) (r : Fin 4) (j : Fin 4096) (h : 0 < 4) :
    accAt m c r j 0 h = min big (blockMin (rowP m c r) (sim (entries (rowX m c r)) · j) 0 h) := by
  unfold accAt
  rw [accV]
  exact (step_apply m c 0 h _ r j).trans (by rw [pay12_apply])

theorem accAt_succ (c : Dev nD) (r : Fin 4) (j : Fin 4096) (n : ℕ) (h : n + 1 < 4) :
    accAt m c r j (n + 1) h
      = min (accAt m c r j n (Nat.lt_of_succ_lt h)) (blockMin (rowP m c r) (sim (entries (rowX m c r)) · j) (n + 1) h) := by
  unfold accAt
  rw [accV]
  exact step_apply m c (n + 1) h _ r j

/-- The columns' minimum of the accumulator's row `r` over a group disjoint from the row's: the minimum over all pairs. -/
theorem colMin_acc (c : Dev nD) (r : Fin 4) (Q : Fin 4096 → BitVec 1) (hd : ∀ i, IntOp.andi (rowP m c r i) (Q i) = 0#1) :
    colMin Q (fun j => accV m c 3 lt3 (ix2 (r.castLE (by decide)) j)) = pairMin (rowP m c r) Q (sim (entries (rowX m c r))) :=
  colMin_eq_pairMin _ Q (sim (entries (rowX m c r))) hd (accAt m c r) (accAt_zero m c r) (accAt_succ m c r) (by decide)

/-! ## The six words -/

section
variable (t : Vec Ideal S1x4096 .i32) (a : Vec Ideal S1x4096 .f32)

/-- The groups of columns. -/
abbrev colLab (l : BitVec 32) (j : Fin 4096) : BitVec 1 := IntOp.cmpi .eq (t (ix2 0 j)) l

theorem pay7_eq : k0_pay7 t a = colMin (colLab t 1#32) (fun j => a (ix2 0 j)) := by
  pointwise [k0_pay7, k0_pay5]
  rw [top32]
  rfl

theorem pay8_eq : k0_pay8 t a = colMin (colLab t 2#32) (fun j => a (ix2 0 j)) := by
  pointwise [k0_pay8, k0_pay6]
  rw [top32]
  rfl

theorem pay9_eq : k0_pay9 t a = colMin (colLab t 2#32) (fun j => a (ix2 0 j)) := by
  pointwise [k0_pay9, k0_pay6]
  rw [top32]
  rfl

theorem pay2_eq : k0_pay2 (k0_pay5 t) a (Scalar.ofBits .f32 0x447A0000#32) = colMin (colLab t 1#32) (fun j => a (ix2 0 j)) := by
  pointwise [k0_pay2, k0_pay5]
  rw [top32]
  rfl

theorem pay3_eq : k0_pay3 (k0_pay6 t) a = colMin (colLab t 2#32) (fun j => a (ix2 0 j)) := by
  pointwise [k0_pay3, k0_pay6]
  rw [top32]
  rfl

theorem pay4_eq : k0_pay4 (k0_pay6 t) a = colMin (colLab t 2#32) (fun j => a (ix2 0 j)) := by
  pointwise [k0_pay4, k0_pay6]
  rw [top32]
  rfl
end

/-- The groups of columns are those of the labels. -/
theorem colLab_eq (c : Dev nD) (l : BitVec 32) : colLab (iblk m c 2 t0_3) l = lab (tl m c) l := by
  funext j
  unfold colLab lab
  rw [iblk2_apply]

/-- A row of the accumulator, cut out. -/
theorem accRow_apply (k : Fin 4) (h) (acc : Vec Ideal S8x4096 .f32) (j : Fin 4096) :
    (accRow ![k.val, 0] h acc : Vec Ideal S1x4096 .f32) (ix2 0 j) = acc (ix2 (k.castLE (by decide)) j) := by
  show acc _ = acc _
  congr 1
  funext a
  apply Fin.ext
  match a with
  | ⟨0, _⟩ => show k.val + 1 * 0 = k.val; omega
  | ⟨1, _⟩ => show 0 + 1 * j.val = j.val; omega

/-- A word of the six final minima. -/
theorem outs_apply (t : Vec Ideal S1x4096 .i32) (acc : Vec Ideal S8x4096 .f32) (k : Fin 6) : outs t acc (ix1 k) = pick k.val
    (k0_pay7 t (accRow ![0, 0] inb_S8x4096_S1x4096_0_0 acc))
    (k0_pay8 t (accRow ![0, 0] inb_S8x4096_S1x4096_0_0 acc))
    (k0_pay9 t (accRow ![1, 0] inb_S8x4096_S1x4096_1_0 acc))
    (k0_pay2 (k0_pay5 t) (accRow ![2, 0] inb_S8x4096_S1x4096_2_0 acc) (Scalar.ofBits .f32 0x447A0000#32))
    (k0_pay3 (k0_pay6 t) (accRow ![2, 0] inb_S8x4096_S1x4096_2_0 acc))
    (k0_pay4 (k0_pay6 t) (accRow ![3, 0] inb_S8x4096_S1x4096_3_0 acc)) := rfl

/-- The columns' minimum of a row cut out of the accumulator after the last point. -/
theorem colMin_row (c : Dev nD) (r : Fin 4) (l : BitVec 32) (h) (hd : ∀ i, IntOp.andi (rowP m c r i) (lab (tl m c) l i) = 0#1) :
    colMin (colLab (iblk m c 2 t0_3) l)
        (fun j => (accRow ![r.val, 0] h (accV m c 3 lt3) : Vec Ideal S1x4096 .f32) (ix2 0 j))
      = pairMin (rowP m c r) (lab (tl m c) l) (sim (entries (rowX m c r))) := by
  rw [colLab_eq, ← colMin_acc m c r _ hd]
  exact congrArg _ (funext fun j => accRow_apply r h _ j)

/-- The kernel's result, word by word, in the arguments: the six minima over all pairs. -/
theorem result_eq (c : Dev nD) (k : Fin 6) : (result m c : Vec Ideal S6 .f32) (ix1 k)
    = six (entries (arg0 m c)) (entries (arg1 m c)) (tl m c) (trl m c) k := by
  unfold result
  rw [outs_apply, pay7_eq, pay8_eq, pay9_eq, pay2_eq, pay3_eq, pay4_eq]
  have d2 (l : BitVec 32) (h : 0#32 ≠ l) := lab2_disjoint (tl m c) (trl m c) l h
  have d1 := lab_disjoint (tl m c) 1#32 2#32 (by decide)
  match k with
  | 0 => exact (pick_0 ..).trans (colMin_row m c 0 1#32 inb_S8x4096_S1x4096_0_0 (d2 _ (by decide)))
  | 1 => exact (pick_1 ..).trans (colMin_row m c 0 2#32 inb_S8x4096_S1x4096_0_0 (d2 _ (by decide)))
  | 2 => exact (pick_2 ..).trans (colMin_row m c 1 2#32 inb_S8x4096_S1x4096_1_0 d1)
  | 3 => exact (pick_3 ..).trans (colMin_row m c 2 1#32 inb_S8x4096_S1x4096_2_0 (d2 _ (by decide)))
  | 4 => exact (pick_4 ..).trans (colMin_row m c 2 2#32 inb_S8x4096_S1x4096_2_0 (d2 _ (by decide)))
  | 5 => exact (pick_5 ..).trans (colMin_row m c 3 2#32 inb_S8x4096_S1x4096_3_0 d1)

end Cert.KernelIdeal.Value

end
-- ==== Proof.Ref.lean ====
/- What the reference computes: its result is the six minima over all pairs. -/
module

public import proofs.«01_k».proof.Proof.Gen.ReferenceIdeal.Run
public import proofs.«01_k».proof.Proof.Minima
public import Idealize.ShloMosaic.Lib.Tactic.CleanTypes

@[expose] public section

set_option maxRecDepth 16384

noncomputable section

namespace Cert.ReferenceIdeal.Value

open Cert.ReferenceIdeal Idealize.ShloMosaic Idealize.ShloMosaic.TcCoe Idealize.ShloMosaic.Tactic

variable (m : (ℓ : Loc nD τ sig) → Buf (Elt Ideal) ℓ)

/-- The reference's result, word by word, in its arguments: the six minima over all pairs. -/
theorem res_eq (c : Dev nD) (k : Fin 6) : (res_main_v77 m c : Vec Ideal S6 .f32) (ix1 k)
    = Minima.six (fun i k => (m ((c.tc : Thread nD τ).loc main_arg0) : Vec Ideal S4096x128 .f32) (ix2 i k))
        (fun i k => (m ((c.tc : Thread nD τ).loc main_arg1) : Vec Ideal S4096x128 .f32) (ix2 i k))
        (fun i => (m ((c.tc : Thread nD τ).loc main_arg2) : Vec Ideal S4096x2 .i32) (ix2 i 1))
        (fun i => (m ((c.tc : Thread nD τ).loc main_arg3) : Vec Ideal S4096 .i32) (ix1 i)) k := by
  unfold res_main_v77
  clean_types
  fin_cases k <;> pointwise <;> rw [Minima.top32] <;> rfl

end Cert.ReferenceIdeal.Value

end
-- ==== Proof.lean ====
/-
  The five claims: the kernel at the machine's floats and over the extended reals, and the reference, each run with their
  arguments unchanged and every counter at zero; the idealized kernel is the kernel's own text; and over the extended reals
  the kernel and the reference end with equal results.

  The modules: Proof/Cases.lean (what one grid point leaves), Proof/Final.lean (the scratch buffers after every point, the
  final array, the run), Proof/Blocks.lean (what each window's block holds), Proof/Minima.lean (the equation as
  mathematics), Proof/Step.lean (the kernel's result as the six minima), Proof/Ref.lean (the reference's result as the same).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Step
public import proofs.«01_k».proof.Proof.Ref
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference ends with its arguments unchanged and every counter at zero. -/
theorem reference_frame : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The two programs end with equal results: either is the six minima over all pairs, of the same arguments. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.KernelIdeal.Value.result m c, Cert.KernelIdeal.Value.run_result m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3⟩ := hagree c
  funext j
  obtain ⟨k, rfl⟩ : ∃ k : Fin 6, j = ix1 k := ⟨j 0, funext fun a => by fin_cases a; rfl⟩
  refine (Cert.ReferenceIdeal.Value.res_eq m' c k).trans (Eq.trans ?_ (Cert.KernelIdeal.Value.result_eq m c k).symm)
  rw [e0, e1, e2, e3]

/-- The five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, algebraic⟩

end Cert.Proof

end
